-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x6144x7168 : Shape := ⟨3, ![2, 6144, 7168]⟩
abbrev S2x6144x1 : Shape := ⟨3, ![2, 6144, 1]⟩
abbrev S7168x4096 : Shape := ⟨2, ![7168, 4096]⟩
abbrev S4096 : Shape := ⟨1, ![4096]⟩
abbrev S12288x7168 : Shape := ⟨2, ![12288, 7168]⟩
abbrev S12288x1 : Shape := ⟨2, ![12288, 1]⟩
abbrev S1x4096 : Shape := ⟨2, ![1, 4096]⟩
abbrev S12288x4096 : Shape := ⟨2, ![12288, 4096]⟩
abbrev S1024x7168 : Shape := ⟨2, ![1024, 7168]⟩
abbrev S1024x1 : Shape := ⟨2, ![1024, 1]⟩
abbrev S7168x1024 : Shape := ⟨2, ![7168, 1024]⟩
abbrev S1x1024 : Shape := ⟨2, ![1, 1024]⟩
abbrev S1024x1024 : Shape := ⟨2, ![1024, 1024]⟩
abbrev S2x6144x4096 : Shape := ⟨3, ![2, 6144, 4096]⟩

abbrev nBuf : Space → Nat
  | .hbm => 9
  | .vmem => 10
  | .smem => 0
  | _ => 0

abbrev bufTy : (tb : Table) → Fin (tcTables nBuf tb) → BufTy
  | .hbm, ⟨0, _⟩ => ⟨S2x6144x7168, .fp8e4m3⟩
  | .hbm, ⟨1, _⟩ => ⟨S2x6144x1, .f32⟩
  | .hbm, ⟨2, _⟩ => ⟨S7168x4096, .fp8e4m3⟩
  | .hbm, ⟨3, _⟩ => ⟨S4096, .f32⟩
  | .hbm, ⟨4, _⟩ => ⟨S12288x7168, .fp8e4m3⟩
  | .hbm, ⟨5, _⟩ => ⟨S12288x1, .f32⟩
  | .hbm, ⟨6, _⟩ => ⟨S1x4096, .f32⟩
  | .hbm, ⟨7, _⟩ => ⟨S12288x4096, .bf16⟩
  | .hbm, ⟨8, _⟩ => ⟨S2x6144x4096, .bf16⟩
  | .local _ .vmem, ⟨0, _⟩ => ⟨S1024x7168, .fp8e4m3⟩
  | .local _ .vmem, ⟨1, _⟩ => ⟨S1024x7168, .fp8e4m3⟩
  | .local _ .vmem, ⟨2, _⟩ => ⟨S1024x1, .f32⟩
  | .local _ .vmem, ⟨3, _⟩ => ⟨S1024x1, .f32⟩
  | .local _ .vmem, ⟨4, _⟩ => ⟨S7168x1024, .fp8e4m3⟩
  | .local _ .vmem, ⟨5, _⟩ => ⟨S7168x1024, .fp8e4m3⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | _, _ => ⟨S2x6144x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S7168x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x6144x7168 : Shape := ⟨3, ![2, 6144, 7168]⟩
abbrev S2x6144x1 : Shape := ⟨3, ![2, 6144, 1]⟩
abbrev S7168x4096 : Shape := ⟨2, ![7168, 4096]⟩
abbrev S4096 : Shape := ⟨1, ![4096]⟩
abbrev S2x6144x4096 : Shape := ⟨3, ![2, 6144, 4096]⟩
abbrev S1x1x4096 : Shape := ⟨3, ![1, 1, 4096]⟩

abbrev nBuf : Space → Nat
  | .hbm => 5
  | .vmem => 5
  | .smem => 0
  | _ => 0

abbrev bufTy : (tb : Table) → Fin (tcTables nBuf tb) → BufTy
  | .hbm, ⟨0, _⟩ => ⟨S2x6144x7168, .fp8e4m3⟩
  | .hbm, ⟨1, _⟩ => ⟨S2x6144x1, .f32⟩
  | .hbm, ⟨2, _⟩ => ⟨S7168x4096, .fp8e4m3⟩
  | .hbm, ⟨3, _⟩ => ⟨S4096, .f32⟩
  | .hbm, ⟨4, _⟩ => ⟨S2x6144x4096, .bf16⟩
  | .local _ .vmem, ⟨0, _⟩ => ⟨S2x6144x7168, .fp8e4m3⟩
  | .local _ .vmem, ⟨1, _⟩ => ⟨S2x6144x1, .f32⟩
  | .local _ .vmem, ⟨2, _⟩ => ⟨S7168x4096, .fp8e4m3⟩
  | .local _ .vmem, ⟨3, _⟩ => ⟨S4096, .f32⟩
  | .local _ .vmem, ⟨4, _⟩ => ⟨S2x6144x4096, .bf16⟩
  | _, _ => ⟨S2x6144x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x6144x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x6144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x6144x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Gelu.lean ====
/-
  One element of the layer, as a function of extended reals: what both programs compute from an element of the product
  and its two scales.
-/
module

public import Idealize.ShloMosaic.PureOps.Ideal

@[expose] public section

noncomputable section

namespace Cert.Proof

open Idealize.ShloMosaic

/-- The tanh form of GELU on the extended reals, `0.5 h (1 + tanh (c (h + a h h h)))`; the constants 0.5, c = √(2/π) and
    a = 0.044715 are the values of the three binary32 words that the programs carry. -/
def gelu (h : EReal) : EReal :=
  Ideal.ofBits .f32 0x3F000000#32 * h
    * (1 + Ideal.tanh (Ideal.ofBits .f32 0x3F4C422A#32 * (h + Ideal.ofBits .f32 0x3D372713#32 * h * h * h)))

/-- One output element: the GELU of a row of `x` times a column of `w` (7168 terms), times the row's scale `xs`, times the
    column's scale `ws`. -/
def element (x w : Fin 7168 → EReal) (xs ws : EReal) : EReal :=
  gelu ((∑ k, x k * w k) * xs * ws)

end Cert.Proof

end
-- ==== Proof.KernelBlock.lean ====
/-
  What one block of the kernel computes, element by element.
-/
module

public import proofs.«01_k».proof.Proof.Gen.KernelIdeal.Frame
public import proofs.«01_k».proof.Proof.Gelu
public import Idealize.ShloMosaic.Lib.Pointwise

@[expose] public section

set_option maxRecDepth 16384

noncomputable section

namespace Cert.Proof.KernelBlock

open Idealize.ShloMosaic Idealize.SL.Sem Cert.KernelIdeal

/-- Element (r, n) of what the body stores is `element` of row `r` of the block of `x`, column `n` of the block of `w`, and
    their scales. -/
theorem pay_apply (x : Vec Ideal S1024x7168 .fp8e4m3) (w : Vec Ideal S7168x1024 .fp8e4m3) (xs : Vec Ideal S1024x1 .f32)
    (ws : Vec Ideal S1x1024 .f32) (r n : Fin 1024) :
    Gen.k0_pay1 (F := Ideal) x w xs ws (ix2 r n)
      = element (fun k => x (ix2 r k)) (fun k => w (ix2 k n)) (xs (ix2 r 0)) (ws (ix2 0 n)) := by
  pointwise [Gen.k0_pay1]
  rfl

theorem hz : (![0, 0] : Fin 2 → Nat) = fun _ => 0 := funext fun a => by fin_cases a <;> rfl

/-- The body's loads read whole buffers and its one store covers the output's buffer, which is left holding the payload. -/
theorem out_eq (x : Vec Ideal S1024x7168 .fp8e4m3) (xs : Vec Ideal S1024x1 .f32) (w : Vec Ideal S7168x1024 .fp8e4m3)
    (ws : Vec Ideal S1x1024 .f32) : Gen.out0_4 (F := Ideal) x xs w ws = Gen.k0_pay1 x w xs ws := by
  unfold Gen.out0_4
  rw [View.canon_unit_zero hz, View.ld_unit_zero (S := S1024x7168) hz _ x, View.ld_unit_zero (S := S7168x1024) hz _ w,
    View.ld_unit_zero (S := S1024x1) hz _ xs, View.ld_unit_zero (S := S1x1024) hz _ ws]

end Cert.Proof.KernelBlock

end
-- ==== Proof.KernelArray.lean ====
/-
  What the array of the kernel's launch holds after the run: the 12 × 4 blocks of 1024 × 1024 elements tile it, and block
  (i, j) is computed from block row `i` of `x` and its scales and block column `j` of `w` and its scales.
-/
module

public import proofs.«01_k».proof.Proof.KernelBlock
public import Idealize.ShloMosaic.Lib.Pipeline.Value

@[expose] public section

set_option maxRecDepth 16384

noncomputable section

namespace Cert.Proof.KernelArray

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The result as one function of the four arrays that the launch reads: element (r, n) from row `r` of `x` and column `n`
    of `w`. -/
def G (x : Vec Ideal S12288x7168 .fp8e4m3) (xs : Vec Ideal S12288x1 .f32) (w : Vec Ideal S7168x4096 .fp8e4m3)
    (ws : Vec Ideal S1x4096 .f32) : Vec Ideal S12288x4096 .bf16 := fun i =>
  element (fun k => x (ix2 (i 0) k)) (fun k => w (ix2 k (i 1))) (xs (ix2 (i 0) 0)) (ws (ix2 0 (i 1)))

/-- The block indices of the five windows at grid point `t`: block row `t / 4`, block column `t % 4`. -/
theorem idx : ∀ t : Fin grid0.N,
    (win0_0.index t (0 : Fin 2) = t.val / 4 ∧ win0_0.index t (1 : Fin 2) = 0)
    ∧ (win0_1.index t (0 : Fin 2) = t.val / 4 ∧ win0_1.index t (1 : Fin 2) = 0)
    ∧ (win0_2.index t (0 : Fin 2) = 0 ∧ win0_2.index t (1 : Fin 2) = t.val % 4)
    ∧ (win0_3.index t (0 : Fin 2) = 0 ∧ win0_3.index t (1 : Fin 2) = t.val % 4)
    ∧ (win0_4.index t (0 : Fin 2) = t.val / 4 ∧ win0_4.index t (1 : Fin 2) = t.val % 4) := by
  decide +kernel

theorem rowBound (t : Fin cfg0.N) (r : Fin 1024) : t.val / 4 * 1024 + r.val < 12288 := by
  have ht : t.val < 48 := lt_of_lt_of_eq t.isLt N_0
  omega

theorem colBound (t : Fin cfg0.N) (n : Fin 1024) : t.val % 4 * 1024 + n.val < 4096 := by
  omega

/-- Row `r` of point `t`'s block, as a row of the whole array. -/
abbrev row (t : Fin cfg0.N) (r : Fin 1024) : Fin 12288 := ⟨t.val / 4 * 1024 + r.val, rowBound t r⟩

/-- Column `n` of point `t`'s block, as a column of the whole array. -/
abbrev col (t : Fin cfg0.N) (n : Fin 1024) : Fin 4096 := ⟨t.val % 4 * 1024 + n.val, colBound t n⟩

/-- The block of `x` at point `t` is its rows from `t / 4 * 1024` on. -/
theorem iblk0 (c : Dev nD) (t : Fin cfg0.N) (r : Fin 1024) (k : Fin 7168) :
    (iblk m c 0 t : Vec Ideal S1024x7168 .fp8e4m3) (ix2 r k) = (V m c main_v0 : Vec Ideal S12288x7168 .fp8e4m3) (ix2 (row t r) k) := by
  obtain ⟨⟨e0, e1⟩, -⟩ := idx t
  show V m c main_v0 (((cfg0.win 0).blk t).view.emb (ix2 r k)) = _
  congr 1
  funext a; apply Fin.ext
  match a with
  | ⟨0, _⟩ => show win0_0.index t (0 : Fin 2) * 1024 + 1 * r.val = t.val / 4 * 1024 + r.val; omega
  | ⟨1, _⟩ => show win0_0.index t (1 : Fin 2) * 7168 + 1 * k.val = k.val; omega

/-- The block of row scales at point `t`. -/
theorem iblk1 (c : Dev nD) (t : Fin cfg0.N) (r : Fin 1024) :
    (iblk m c 1 t : Vec Ideal S1024x1 .f32) (ix2 r 0) = (V m c main_v1 : Vec Ideal S12288x1 .f32) (ix2 (row t r) 0) := by
  obtain ⟨-, ⟨e0, e1⟩, -⟩ := idx t
  show V m c main_v1 (((cfg0.win 1).blk t).view.emb (ix2 r 0)) = _
  congr 1
  funext a; apply Fin.ext
  match a with
  | ⟨0, _⟩ => show win0_1.index t (0 : Fin 2) * 1024 + 1 * r.val = t.val / 4 * 1024 + r.val; omega
  | ⟨1, _⟩ => show win0_1.index t (1 : Fin 2) * 1 + 1 * 0 = 0; omega

/-- The block of `w` at point `t` is its columns from `t % 4 * 1024` on. -/
theorem iblk2 (c : Dev nD) (t : Fin cfg0.N) (k : Fin 7168) (n : Fin 1024) :
    (iblk m c 2 t : Vec Ideal S7168x1024 .fp8e4m3) (ix2 k n) = (V m c main_arg2 : Vec Ideal S7168x4096 .fp8e4m3) (ix2 k (col t n)) := by
  obtain ⟨-, -, ⟨e0, e1⟩, -⟩ := idx t
  show V m c main_arg2 (((cfg0.win 2).blk t).view.emb (ix2 k n)) = _
  congr 1
  funext a; apply Fin.ext
  match a with
  | ⟨0, _⟩ => show win0_2.index t (0 : Fin 2) * 7168 + 1 * k.val = k.val; omega
  | ⟨1, _⟩ => show win0_2.index t (1 : Fin 2) * 1024 + 1 * n.val = t.val % 4 * 1024 + n.val; omega

/-- The block of column scales at point `t`. -/
theorem iblk3 (c : Dev nD) (t : Fin cfg0.N) (n : Fin 1024) :
    (iblk m c 3 t : Vec Ideal S1x1024 .f32) (ix2 0 n) = (V m c main_v2 : Vec Ideal S1x4096 .f32) (ix2 0 (col t n)) := by
  obtain ⟨-, -, -, ⟨e0, e1⟩, -⟩ := idx t
  show V m c main_v2 (((cfg0.win 3).blk t).view.emb (ix2 0 n)) = _
  congr 1
  funext a; apply Fin.ext
  match a with
  | ⟨0, _⟩ => show win0_3.index t (0 : Fin 2) * 1 + 1 * 0 = 0; omega
  | ⟨1, _⟩ => show win0_3.index t (1 : Fin 2) * 1024 + 1 * n.val = t.val % 4 * 1024 + n.val; omega

/-- Where element (r, n) of point `t`'s output block lies in the output array. -/
theorem emb4 (t : Fin cfg0.N) (r n : Fin 1024) :
    (((cfg0.win 4).blk t).view.emb (ix2 r n) : S12288x4096.Idx) = ix2 (row t r) (col t n) := by
  obtain ⟨-, -, -, -, e0, e1⟩ := idx t
  funext a; apply Fin.ext
  match a with
  | ⟨0, _⟩ => show win0_4.index t (0 : Fin 2) * 1024 + 1 * r.val = t.val / 4 * 1024 + r.val; omega
  | ⟨1, _⟩ => show win0_4.index t (1 : Fin 2) * 1024 + 1 * n.val = t.val % 4 * 1024 + n.val; omega

/-- The result of the launch, from the arrays as the launch finds them. -/
abbrev result (c : Dev nD) : Vec Ideal S12288x4096 .bf16 :=
  G (V m c main_v0) (V m c main_v1) (V m c main_arg2) (V m c main_v2)

/-- What point `t` writes back is its block of `result`. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4, KernelBlock.out_eq]
  funext j
  obtain ⟨r, n, rfl⟩ : ∃ r n : Fin 1024, j = ix2 r n := ⟨j 0, j 1, eq_ix2 j⟩
  show k0_pay1 (F := Ideal) (iblk m c 0 t) (iblk m c 2 t) (iblk m c 1 t) (iblk m c 3 t) (ix2 r n)
    = result m c (((cfg0.win 4).blk t).view.emb (ix2 r n))
  rw [emb4, KernelBlock.pay_apply]
  simp only [iblk0, iblk1, iblk2, iblk3]
  rfl

/-- Every element of the output array lies in the block of some point: block row `i / 1024`, block column `n / 1024`. -/
theorem cover (i : S12288x4096.Idx) :
    ∃ t : Fin cfg0.N, (cfg0.win 4).flush t = true ∧ i ∈ ((cfg0.win 4).blk t).view.set := by
  obtain ⟨r, n, rfl⟩ : ∃ (r : Fin 12288) (n : Fin 4096), i = ix2 r n := ⟨i 0, i 1, eq_ix2 i⟩
  have hb : r.val / 1024 * 4 + n.val / 1024 < 48 := by omega
  let t : Fin cfg0.N := ⟨r.val / 1024 * 4 + n.val / 1024, by show _ < grid0.N; rw [N_0]; exact hb⟩
  have ht : t.val = r.val / 1024 * 4 + n.val / 1024 := rfl
  refine ⟨t, flush0_4 t, ?_⟩
  have h := ((cfg0.win 4).blk t).view.emb_mem_set (ix2 (⟨r.val % 1024, by omega⟩ : Fin 1024) (⟨n.val % 1024, by omega⟩ : Fin 1024))
  rw [emb4] at h
  have e : (ix2 (row t ⟨r.val % 1024, by omega⟩) (col t ⟨n.val % 1024, by omega⟩) : S12288x4096.Idx) = ix2 r n := by
    funext a; apply Fin.ext
    match a with
    | ⟨0, _⟩ => show t.val / 4 * 1024 + r.val % 1024 = r.val; omega
    | ⟨1, _⟩ => show t.val % 4 * 1024 + n.val % 1024 = n.val; omega
  rwa [e] at h

/-- The output array after the run is `result`. -/
theorem final (c : Dev nD) : (dats m 0 c).arrAt 4 cfg0.N = result m c :=
  (dats m 0 c).arrAt_eq_of_cover 4 (result m c) (fun t _ => flushed_eq m c t) cover

end Cert.Proof.KernelArray

end
-- ==== Proof.KernelRun.lean ====
/-
  The kernel program's run with its value: the reshapes before the launch, the launch, and the reshape of its result.
-/
module

public import proofs.«01_k».proof.Proof.KernelArray
public import Idealize.ShloMosaic.Lib.StableHlo.Run

@[expose] public section

set_option maxRecDepth 16384

noncomputable section

namespace Cert.Proof.KernelRun

open Idealize.ShloMosaic Idealize.ShloMosaic.TcCoe Idealize.SL.Sem Cert.KernelIdeal Cert.KernelIdeal.Gen
open Idealize.ShloMosaic.StableHlo

variable (m : (ℓ : Loc nD τ sig) → Buf (Elt Ideal) ℓ) (ρ : Dev nD → PrngReg)

/-- The launch reads `x` with its two leading axes merged. -/
theorem V_v0 (c : Dev nD) : (V m c main_v0 : Vec Ideal S12288x7168 .fp8e4m3)
    = shapeCast S12288x7168 (m ((c : Thread nD τ).loc main_arg0) : Vec Ideal S2x6144x7168 .fp8e4m3) shapeCasts_S2x6144x7168_S12288x7168 := by
  show after (List.flatten [hostOps0]) (fun b => m (c, b)) (Proc.devRef .tc main_v0) = _
  unfold hostOps0
  simp only [List.flatten_cons, List.flatten_nil, List.append_nil]
  after_results
  rfl

/-- The launch reads the row scales with their two leading axes merged. -/
theorem V_v1 (c : Dev nD) : (V m c main_v1 : Vec Ideal S12288x1 .f32)
    = shapeCast S12288x1 (m ((c : Thread nD τ).loc main_arg1) : Vec Ideal S2x6144x1 .f32) shapeCasts_S2x6144x1_S12288x1 := by
  show after (List.flatten [hostOps0]) (fun b => m (c, b)) (Proc.devRef .tc main_v1) = _
  unfold hostOps0
  simp only [List.flatten_cons, List.flatten_nil, List.append_nil]
  after_results
  rfl

/-- The launch reads the column scales as one row. -/
theorem V_v2 (c : Dev nD) : (V m c main_v2 : Vec Ideal S1x4096 .f32)
    = shapeCast S1x4096 (m ((c : Thread nD τ).loc main_arg3) : Vec Ideal S4096 .f32) shapeCasts_S4096_S1x4096 := by
  show after (List.flatten [hostOps0]) (fun b => m (c, b)) (Proc.devRef .tc main_v2) = _
  unfold hostOps0
  simp only [List.flatten_cons, List.flatten_nil, List.append_nil]
  after_results
  rfl

/-- The program's result: the launch's array with its rows split into batch and sequence. -/
def value (c : Dev nD) : Vec Ideal S2x6144x4096 .bf16 :=
  shapeCast S2x6144x4096 (KernelArray.result m c) shapeCasts_S12288x4096_S2x6144x4096

/-- The reshape after the launch leaves `value` in the result's buffer. -/
theorem tail (c : Dev nD) :
    Pipeline.afterTail₀ cfgs (dats m) 0 (V0 m) [hostOps1] c main_v4 = value m c := by
  unfold Pipeline.afterTail₀ hostOps1 value
  simp only [List.flatten_cons, List.flatten_nil, List.append_nil]
  rw [after_cons, after_nil, reshape_result', ← KernelArray.final]
  have h := Pipeline.withArrays_arr spec0 launch0.win.arr_inj c (V0 m c) (fun w => (dats m 0 c).arrAt w cfg0.N) 4
  exact congrArg (fun X : Vec Ideal S12288x4096 .bf16 => shapeCast S2x6144x4096 X shapeCasts_S12288x4096_S2x6144x4096) h

/-- The run ends with `value` in the result. -/
theorem run_value : θ_run defs (onTc (τ := τ) (main (F := Ideal))) ⟨m, fun _ => 0, ρ⟩ fun r => ∀ c : Dev nD,
      r.2.mem ((c.tc : Thread nD τ).loc main_v4) = value m c :=
  (θ_run defs _ _).mono (fun r h c =>
    ((h c).2 main_v4 (Pipeline.mem_restRefs_of main_v4 (by decide) (by decide))).trans (tail m c)) (run_main m ρ)

/-- The run: it ends with `value` in the result and the four arguments unchanged. -/
theorem run : θ_run defs (onTc (τ := τ) (main (F := Ideal))) ⟨m, fun _ => 0, ρ⟩ fun r => ∀ c : Dev nD,
      r.2.mem ((c.tc : Thread nD τ).loc main_v4) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨h.1 c, h.2 c⟩) (θ_run_and (run_value m ρ) (unchanged m ρ))

end Cert.Proof.KernelRun

end
-- ==== Proof.ReferenceValue.lean ====
/-
  What the reference computes, element by element.
-/
module

public import proofs.«01_k».proof.Proof.Gen.ReferenceIdeal.Skeleton
public import proofs.«01_k».proof.Proof.Gelu
public import Idealize.ShloMosaic.Lib.Pointwise

@[expose] public section

set_option maxRecDepth 16384

noncomputable section

namespace Cert.Proof.ReferenceValue

open Idealize.ShloMosaic Idealize.SL.Sem Cert.ReferenceIdeal

/-- Element (b, s, n) of the reference's result is `element` of row (b, s) of `x`, column `n` of `w`, and their scales. -/
theorem pay_apply (x : Vec Ideal S2x6144x7168 .fp8e4m3) (w : Vec Ideal S7168x4096 .fp8e4m3) (xs : Vec Ideal S2x6144x1 .f32)
    (ws : Vec Ideal S4096 .f32) (b : Fin 2) (s : Fin 6144) (n : Fin 4096) :
    Gen.k0_pay1 (F := Ideal) x w xs ws (ix3 b s n)
      = element (fun k => x (ix3 b s k)) (fun k => w (ix2 k n)) (xs (ix3 b s 0)) (ws (ix1 n)) := by
  pointwise [Gen.k0_pay1]
  rfl

end Cert.Proof.ReferenceValue

end
-- ==== Proof.Equation.lean ====
/-
  The kernel's result and the reference's are one function of the arguments, over the extended reals.
-/
module

public import proofs.«01_k».proof.Proof.KernelRun
public import proofs.«01_k».proof.Proof.ReferenceValue

@[expose] public section

set_option maxRecDepth 16384

noncomputable section

namespace Cert.Proof.Equation

open Idealize.ShloMosaic Idealize.ShloMosaic.TcCoe Idealize.SL.Sem Cert.KernelIdeal Cert.KernelIdeal.Gen

/-- Element (b, s, n) of the reference's result is element (6144 b + s, n) of the function `G` that the launch computes, on
    the arguments with the axes for batch and sequence merged: for any contents of the four arguments. -/
theorem pure_eq (x : Vec Ideal S2x6144x7168 .fp8e4m3) (xs : Vec Ideal S2x6144x1 .f32) (w : Vec Ideal S7168x4096 .fp8e4m3)
    (ws : Vec Ideal S4096 .f32) :
    Cert.ReferenceIdeal.Gen.k0_pay1 (F := Ideal) x w xs ws
      = shapeCast S2x6144x4096
          (KernelArray.G (shapeCast S12288x7168 x shapeCasts_S2x6144x7168_S12288x7168)
            (shapeCast S12288x1 xs shapeCasts_S2x6144x1_S12288x1) w (shapeCast S1x4096 ws shapeCasts_S4096_S1x4096))
          shapeCasts_S12288x4096_S2x6144x4096 := by
  funext j
  obtain ⟨b, s, n, rfl⟩ : ∃ (b : Fin 2) (s : Fin 6144) (n : Fin 4096), j = ix3 b s n := ⟨j 0, j 1, j 2, eq_ix3 j⟩
  rw [ReferenceValue.pay_apply]
  pointwise [KernelArray.G]

variable (m : (ℓ : Loc nD τ sig) → Buf (Elt Ideal) ℓ)

/-- The reference's function of the kernel's arguments is the kernel's result. -/
theorem value_eq (c : Dev nD) :
    Cert.ReferenceIdeal.Gen.k0_pay1 (F := Ideal) (m ((c : Thread nD τ).loc main_arg0)) (m ((c : Thread nD τ).loc main_arg2))
        (m ((c : Thread nD τ).loc main_arg1)) (m ((c : Thread nD τ).loc main_arg3))
      = KernelRun.value m c := by
  unfold KernelRun.value KernelArray.result
  rw [KernelRun.V_v0, KernelRun.V_v1, KernelRun.V_v2, V_main_arg2]
  exact pure_eq _ _ _ _

end Cert.Proof.Equation

end
-- ==== Proof.lean ====
/- The proof of the certificate's claim: the kernel's frame at the words and over the extended reals, the reference's, and
   that both compute one function of their arguments over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Over the extended reals the kernel and the reference end with the same result, from any arguments. -/
theorem algebraic : Cert.algebraic_KernelIdeal_ReferenceIdeal := fun m ρ m' ρ' _ hag =>
  ⟨fun c => KernelRun.value m c, KernelRun.run m ρ,
    (θ_run _ _ _).mono (fun _ h c => ⟨(h c).1.trans (by
        show Cert.ReferenceIdeal.Gen.k0_pay1 (F := Ideal) _ _ _ _ = _
        rw [(hag c).1, (hag c).2.1, (hag c).2.2.1, (hag c).2.2.2]
        exact Equation.value_eq m c), (h c).2⟩)
      (Cert.ReferenceIdeal.Value.run (F := Ideal) m' ρ')⟩

/-- The five claims: the three frames, the idealization's, and the equation of the two results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
